-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_sublayer [hPre_finite_sublayer : Cert.Pre_finite_sublayer.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sublayer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_sublayer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sublayer [hPre_finite_sublayer : Cert.Pre_finite_sublayer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sublayer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_sublayer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_sublayer [hKernelIdeal : Cert.KernelIdeal.Facts] [hPre_finite_sublayer : Cert.Pre_finite_sublayer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sublayer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_sublayer [hReferenceIdeal : Cert.ReferenceIdeal.Facts] [hPre_finite_sublayer : Cert.Pre_finite_sublayer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sublayer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_sublayer [hKernelIdeal : Cert.KernelIdeal.Facts] [hReferenceIdeal : Cert.ReferenceIdeal.Facts] [hPre_finite_sublayer : Cert.Pre_finite_sublayer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sublayer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_sublayer : Cert.Pre_finite_sublayer.Facts),
    quiescent_Kernel (hKernel := hKernel)
    ∧ quiescent_KernelIdeal (hKernelIdeal := hKernelIdeal)
    ∧ quiescent_KernelIdeal_pre_finite_sublayer (hKernelIdeal := hKernelIdeal) (hPre_finite_sublayer := hPre_finite_sublayer)
    ∧ quiescent_ReferenceIdeal (hReferenceIdeal := hReferenceIdeal)
    ∧ quiescent_ReferenceIdeal_pre_finite_sublayer (hReferenceIdeal := hReferenceIdeal) (hPre_finite_sublayer := hPre_finite_sublayer)
    ∧ preserves_Kernel_KernelIdeal
    ∧ algebraic_KernelIdeal_ReferenceIdeal_pre_finite_sublayer (hKernelIdeal := hKernelIdeal) (hReferenceIdeal := hReferenceIdeal) (hPre_finite_sublayer := hPre_finite_sublayer)
-- ==== Pre_finite_sublayer.lean ====
abbrev S2048x768 : Shape := ⟨2, ![2048, 768]⟩
abbrev S768x64 : Shape := ⟨2, ![768, 64]⟩
abbrev S64 : Shape := ⟨1, ![64]⟩
abbrev S64x768 : Shape := ⟨2, ![64, 768]⟩
abbrev S768 : Shape := ⟨1, ![768]⟩
abbrev S64x768x32 : Shape := ⟨3, ![64, 768, 32]⟩
abbrev S64x32 : Shape := ⟨2, ![64, 32]⟩
abbrev S64x32x768 : Shape := ⟨3, ![64, 32, 768]⟩
abbrev S_ : Shape := ⟨0, ![]⟩

class Facts : Prop where
  bcast_S_S64x768x32 : S_.BroadcastsInDim S64x768x32 (![] : Fin 0 → Fin S64x768x32.rank)
  bcast_S_S64x768 : S_.BroadcastsInDim S64x768 (![] : Fin 0 → Fin S64x768.rank)

variable [Facts]

def fn {F : FTy → Type} [FloatOps F] (main_arg0 : FVec F S2048x768 .f32) (main_arg1 : FVec F S768x64 .f32) (main_arg2 : FVec F S64 .f32) (main_arg3 : FVec F S64x768 .f32) (main_arg4 : FVec F S768 .f32) (main_arg5 : FVec F S64x768x32 .f32) (main_arg6 : FVec F S64x32 .f32) (main_arg7 : FVec F S64x32x768 .f32) (main_arg8 : FVec F S64x768 .f32) : IVec S64x768x32 1 × IVec S64x768 1 :=
  let main_v0 : FVec F S64x768x32 .f32 := Host.absf main_arg5
  let main_cst : FVec F S_ .f32 := constant S_ .f32 0x7F800000#32
  let main_v1 : FVec F S64x768x32 .f32 := broadcastInDim S64x768x32 ![] bcast_S_S64x768x32 main_cst
  let main_v2 : IVec S64x768x32 1 := cmpf .olt main_v0 main_v1
  let main_v3 : FVec F S64x768 .f32 := Host.absf main_arg8
  let main_cst_0 : FVec F S_ .f32 := constant S_ .f32 0x7F800000#32
  let main_v4 : FVec F S64x768 .f32 := broadcastInDim S64x768 ![] bcast_S_S64x768 main_cst_0
  let main_v5 : IVec S64x768 1 := cmpf .olt main_v3 main_v4
  (main_v2, main_v5)
-- ==== Kernel.lean ====
abbrev S2048x768 : Shape := ⟨2, ![2048, 768]⟩
abbrev S768x64 : Shape := ⟨2, ![768, 64]⟩
abbrev S64 : Shape := ⟨1, ![64]⟩
abbrev S64x768 : Shape := ⟨2, ![64, 768]⟩
abbrev S768 : Shape := ⟨1, ![768]⟩
abbrev S64x768x32 : Shape := ⟨3, ![64, 768, 32]⟩
abbrev S64x32 : Shape := ⟨2, ![64, 32]⟩
abbrev S64x32x768 : Shape := ⟨3, ![64, 32, 768]⟩
abbrev S768x64x32 : Shape := ⟨3, ![768, 64, 32]⟩
abbrev S768x2048 : Shape := ⟨2, ![768, 2048]⟩
abbrev S512x768 : Shape := ⟨2, ![512, 768]⟩
abbrev S1x2048 : Shape := ⟨2, ![1, 2048]⟩
abbrev S64x2048 : Shape := ⟨2, ![64, 2048]⟩
abbrev S32x2048 : Shape := ⟨2, ![32, 2048]⟩
abbrev S2048 : Shape := ⟨1, ![2048]⟩
abbrev S1x768 : Shape := ⟨2, ![1, 768]⟩
abbrev S1x64 : Shape := ⟨2, ![1, 64]⟩
abbrev S512x64 : Shape := ⟨2, ![512, 64]⟩
abbrev S512x2048 : Shape := ⟨2, ![512, 2048]⟩

abbrev nBuf : Space → Nat
  | .hbm => 13
  | .vmem => 15
  | .smem => 0
  | _ => 0

abbrev bufTy : (tb : Table) → Fin (tcTables nBuf tb) → BufTy
  | .hbm, ⟨0, _⟩ => ⟨S2048x768, .f32⟩
  | .hbm, ⟨1, _⟩ => ⟨S768x64, .f32⟩
  | .hbm, ⟨2, _⟩ => ⟨S64, .f32⟩
  | .hbm, ⟨3, _⟩ => ⟨S64x768, .f32⟩
  | .hbm, ⟨4, _⟩ => ⟨S768, .f32⟩
  | .hbm, ⟨5, _⟩ => ⟨S64x768x32, .f32⟩
  | .hbm, ⟨6, _⟩ => ⟨S64x32, .f32⟩
  | .hbm, ⟨7, _⟩ => ⟨S64x32x768, .f32⟩
  | .hbm, ⟨8, _⟩ => ⟨S64x768, .f32⟩
  | .hbm, ⟨9, _⟩ => ⟨S64x768x32, .bf16⟩
  | .hbm, ⟨10, _⟩ => ⟨S768x64x32, .bf16⟩
  | .hbm, ⟨11, _⟩ => ⟨S768x2048, .bf16⟩
  | .hbm, ⟨12, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S768x64, .f32⟩
  | .local _ .vmem, ⟨3, _⟩ => ⟨S64, .f32⟩
  | .local _ .vmem, ⟨4, _⟩ => ⟨S64x768, .f32⟩
  | .local _ .vmem, ⟨5, _⟩ => ⟨S768, .f32⟩
  | .local _ .vmem, ⟨6, _⟩ => ⟨S768x2048, .bf16⟩
  | .local _ .vmem, ⟨7, _⟩ => ⟨S64x32x768, .f32⟩
  | .local _ .vmem, ⟨8, _⟩ => ⟨S64x32, .f32⟩
  | .local _ .vmem, ⟨9, _⟩ => ⟨S64x768, .f32⟩
  | .local _ .vmem, ⟨10, _⟩ => ⟨S512x768, .f32⟩
  | .local _ .vmem, ⟨11, _⟩ => ⟨S512x768, .f32⟩
  | .local _ .vmem, ⟨12, _⟩ => ⟨S1x2048, .f32⟩
  | .local _ .vmem, ⟨13, _⟩ => ⟨S64x2048, .bf16⟩
  | .local _ .vmem, ⟨14, _⟩ => ⟨S2048x768, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2048x768 : Shape := ⟨2, ![2048, 768]⟩
abbrev S768x64 : Shape := ⟨2, ![768, 64]⟩
abbrev S64 : Shape := ⟨1, ![64]⟩
abbrev S64x768 : Shape := ⟨2, ![64, 768]⟩
abbrev S768 : Shape := ⟨1, ![768]⟩
abbrev S64x768x32 : Shape := ⟨3, ![64, 768, 32]⟩
abbrev S64x32 : Shape := ⟨2, ![64, 32]⟩
abbrev S64x32x768 : Shape := ⟨3, ![64, 32, 768]⟩
abbrev S1x768 : Shape := ⟨2, ![1, 768]⟩
abbrev S2048x64 : Shape := ⟨2, ![2048, 64]⟩
abbrev S1x64 : Shape := ⟨2, ![1, 64]⟩
abbrev S_ : Shape := ⟨0, ![]⟩
abbrev S2048x64x1 : Shape := ⟨3, ![2048, 64, 1]⟩
abbrev S2048x1x768 : Shape := ⟨3, ![2048, 1, 768]⟩
abbrev S1x64x768 : Shape := ⟨3, ![1, 64, 768]⟩
abbrev S2048x64x768 : Shape := ⟨3, ![2048, 64, 768]⟩
abbrev S64x32x2048 : Shape := ⟨3, ![64, 32, 2048]⟩
abbrev S2048x64x32 : Shape := ⟨3, ![2048, 64, 32]⟩
abbrev S1x64x32 : Shape := ⟨3, ![1, 64, 32]⟩
abbrev S64x768x2048 : Shape := ⟨3, ![64, 768, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x64, .f32⟩
  | .hbm, ⟨2, _⟩ => ⟨S64, .f32⟩
  | .hbm, ⟨3, _⟩ => ⟨S64x768, .f32⟩
  | .hbm, ⟨4, _⟩ => ⟨S768, .f32⟩
  | .hbm, ⟨5, _⟩ => ⟨S64x768x32, .f32⟩
  | .hbm, ⟨6, _⟩ => ⟨S64x32, .f32⟩
  | .hbm, ⟨7, _⟩ => ⟨S64x32x768, .f32⟩
  | .hbm, ⟨8, _⟩ => ⟨S64x768, .f32⟩
  | .hbm, ⟨9, _⟩ => ⟨S1x768, .f32⟩
  | .hbm, ⟨10, _⟩ => ⟨S2048x768, .f32⟩
  | .hbm, ⟨11, _⟩ => ⟨S2048x768, .f32⟩
  | .hbm, ⟨12, _⟩ => ⟨S2048x64, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S_, .f32⟩
  | .hbm, ⟨17, _⟩ => ⟨S2048x64, .f32⟩
  | .hbm, ⟨18, _⟩ => ⟨S2048x64, .f32⟩
  | .hbm, ⟨19, _⟩ => ⟨S2048x768, .f32⟩
  | .hbm, ⟨20, _⟩ => ⟨S1x768, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S2048x64, .f32⟩
  | .hbm, ⟨25, _⟩ => ⟨S2048x64, .i1⟩
  | .hbm, ⟨26, _⟩ => ⟨S2048x64, .f32⟩
  | .hbm, ⟨27, _⟩ => ⟨S2048x64x1, .f32⟩
  | .hbm, ⟨28, _⟩ => ⟨S2048x1x768, .f32⟩
  | .hbm, ⟨29, _⟩ => ⟨S1x64x768, .f32⟩
  | .hbm, ⟨30, _⟩ => ⟨S2048x64x768, .f32⟩
  | .hbm, ⟨31, _⟩ => ⟨S2048x64x768, .f32⟩
  | .hbm, ⟨32, _⟩ => ⟨S2048x64x768, .f32⟩
  | .hbm, ⟨33, _⟩ => ⟨S64x32x2048, .f32⟩
  | .hbm, ⟨34, _⟩ => ⟨S2048x64x32, .f32⟩
  | .hbm, ⟨35, _⟩ => ⟨S1x64x32, .f32⟩
  | .hbm, ⟨36, _⟩ => ⟨S2048x64x32, .f32⟩
  | .hbm, ⟨37, _⟩ => ⟨S2048x64x32, .f32⟩
  | .hbm, ⟨38, _⟩ => ⟨S_, .f32⟩
  | .hbm, ⟨39, _⟩ => ⟨S2048x64x32, .f32⟩
  | .hbm, ⟨40, _⟩ => ⟨S2048x64x32, .f32⟩
  | .hbm, ⟨41, _⟩ => ⟨S2048x64x32, .f32⟩
  | .hbm, ⟨42, _⟩ => ⟨S2048x64x32, .f32⟩
  | .hbm, ⟨43, _⟩ => ⟨S64x768x2048, .f32⟩
  | .hbm, ⟨44, _⟩ => ⟨S2048x64x768, .f32⟩
  | .hbm, ⟨45, _⟩ => ⟨S1x64x768, .f32⟩
  | .hbm, ⟨46, _⟩ => ⟨S2048x64x768, .f32⟩
  | .hbm, ⟨47, _⟩ => ⟨S2048x64x768, .f32⟩
  | .hbm, ⟨48, _⟩ => ⟨S2048x64x768, .f32⟩
  | .hbm, ⟨49, _⟩ => ⟨S2048x64x768, .f32⟩
  | .hbm, ⟨50, _⟩ => ⟨S_, .f32⟩
  | .hbm, ⟨51, _⟩ => ⟨S2048x768, .f32⟩
  | .hbm, ⟨52, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_cst : Ref sig .tc := ⟨.hbm, 38, rfl⟩
abbrev main_call1_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_0 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.Point.lean ====
/-
  What one grid point of the kernel leaves in the output's block and in the three scratch arrays it carries, as functions of
  the blocks it loads.
-/
module

public import proofs.«01_k».proof.Defs
public import proofs.«01_k».proof.Proof.Gen.KernelIdeal.Value
public import Idealize.ShloMosaic.Lib.Pipeline.Value
public import Idealize.ShloMosaic.Lib.Tactic

@[expose] public section

noncomputable section

namespace Cert.Proof

open Idealize.ShloMosaic Idealize.ShloMosaic.TcCoe Idealize.SL.Sem
open Cert.KernelIdeal Cert.KernelIdeal.Gen

variable {F : FTy → Type} [FloatOps F]

/-- The zero offsets of a vector's whole-array rectangle. -/
theorem hz1 : (![0] : Fin 1 → Nat) = fun _ => 0 := funext fun a => by fin_cases a <;> rfl

/-- The zero offsets of a matrix's whole-array rectangle. -/
theorem hz2 : (![0, 0] : Fin 2 → Nat) = fun _ => 0 := funext fun a => by fin_cases a <;> rfl

/-- The zero offsets of a three-axis array's whole-array rectangle. -/
theorem hz3 : (![0, 0, 0] : Fin 3 → Nat) = fun _ => 0 := funext fun a => by fin_cases a <;> rfl

/-- The row of constants the first point keeps, from the flattened encoder weights, the encoder biases and the decoder
    biases: per flat latent, its encoder bias less the product of its sublayer's decoder bias with its encoder column. -/
def keptConst (w : Vec F S768x2048 .bf16) (be : Vec F S64x32 .f32) (bd : Vec F S64x768 .f32) : Vec F S1x2048 .f32 :=
  k0_pay5 (k0_pay2 (F := F)) (iota .tc S32x2048 32 [0] iota_S32x2048_d0_w32) (iota .tc S32x2048 32 [1] iota_S32x2048_d1_w32)
    32#32 0#1 be bd w

/-- The output block of a point, from the point's rows, the weights, and the three scratch arrays as the point reads them. -/
def outBlock (x : Vec F S512x768 .f32) (w0 : Vec F S768x64 .f32) (b0 : Vec F S64 .f32) (u0 : Vec F S64x768 .f32)
    (c0 : Vec F S768 .f32) (w : Vec F S768x2048 .bf16) (bd : Vec F S64x768 .f32) (s0 : Vec F S1x2048 .f32)
    (s1 : Vec F S64x2048 .bf16) (s2 : Vec F S2048x768 .bf16) : Vec F S512x768 .f32 :=
  k0_pay1 (k0_pay8 x c0 b0 w0) (k0_pay9 x c0 b0 w0 u0) (k0_pay10 x w s0) (k0_pay11 x c0 b0 w0 s1) (k0_pay12 (F := F)) s2 bd

/-- A later point's output block: the scratch arrays are read as the point before left them. -/
theorem out_B (c : Dev nD) (i : grid0.Coords)
    (a1 : Memref sig .tc .vmem S512x768 .f32) (h1 : a1.IsWhole)
    (a2 : Memref sig .tc .vmem S768x64 .f32) (h2 : a2.IsWhole)
    (a3 : Memref sig .tc .vmem S64 .f32) (h3 : a3.IsWhole)
    (a4 : Memref sig .tc .vmem S64x768 .f32) (h4 : a4.IsWhole)
    (a5 : Memref sig .tc .vmem S768 .f32) (h5 : a5.IsWhole)
    (a6 : Memref sig .tc .vmem S768x2048 .bf16) (h6 : a6.IsWhole)
    (a7 : Memref sig .tc .vmem S64x32x768 .f32) (h7 : a7.IsWhole)
    (a8 : Memref sig .tc .vmem S64x32 .f32) (h8 : a8.IsWhole)
    (a9 : Memref sig .tc .vmem S64x768 .f32) (h9 : a9.IsWhole)
    (a10 : Memref sig .tc .vmem S512x768 .f32) (h10 : a10.IsWhole)
    (a11 : Memref sig .tc .vmem S1x2048 .f32) (h11 : a11.IsWhole)
    (a12 : Memref sig .tc .vmem S64x2048 .bf16) (h12 : a12.IsWhole)
    (a13 : Memref sig .tc .vmem S2048x768 .bf16) (h13 : a13.IsWhole)
    (hc : ¬cond0_0 i)
    (x0 : Vec F S512x768 .f32)
    (x1 : Vec F S768x64 .f32)
    (x2 : Vec F S64 .f32)
    (x3 : Vec F S64x768 .f32)
    (x4 : Vec F S768 .f32)
    (x5 : Vec F S768x2048 .bf16)
    (x6 : Vec F S64x32x768 .f32)
    (x7 : Vec F S64x32 .f32)
    (x8 : Vec F S64x768 .f32)
    (s0 : Vec F S1x2048 .f32) (s1 : Vec F S64x2048 .bf16) (s2 : Vec F S2048x768 .bf16) :
    out0_B_9 c i a1 h1 a2 h2 a3 h3 a4 h4 a5 h5 a6 h6 a7 h7 a8 h8 a9 h9 a10 h10 a11 h11 a12 h12 a13 h13 hc x0 x1 x2 x3 x4 x5 x6 x7 x8 s0 s1 s2
      = outBlock x0 x1 x2 x3 x4 x5 x8 s0 s1 s2 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc x0 x1 x2 x3 x4 x5 x6 x7 x8 s0 s1 s2)]
  unfold kernelRun0_B
  dsimp only
  sl_unfold_words
  rw [View.canon_unit_zero hz2]
  unfold outBlock
  simp only [View.readAt_eq_ld, h1.read_unread, h2.read_unread, h3.read_unread, h4.read_unread, h5.read_unread, h6.read_unread, h7.read_unread,
    h8.read_unread, h9.read_unread,
    h11.read_unread, h12.read_unread, h13.read_unread,
    View.ld_unit_zero (S := S512x768) hz2, View.ld_unit_zero (S := S768x64) hz2, View.ld_unit_zero (S := S64) hz1,
    View.ld_unit_zero (S := S64x768) hz2, View.ld_unit_zero (S := S768) hz1, View.ld_unit_zero (S := S768x2048) hz2,
    View.ld_unit_zero (S := S64x32x768) hz3, View.ld_unit_zero (S := S64x32) hz2, View.ld_unit_zero (S := S1x2048) hz2,
    View.ld_unit_zero (S := S64x2048) hz2, View.ld_unit_zero (S := S2048x768) hz2]

/-- The first point's output block: the scratch arrays are read as this point has just stored them. -/
theorem out_A (c : Dev nD) (i : grid0.Coords)
    (a1 : Memref sig .tc .vmem S512x768 .f32) (h1 : a1.IsWhole)
    (a2 : Memref sig .tc .vmem S768x64 .f32) (h2 : a2.IsWhole)
    (a3 : Memref sig .tc .vmem S64 .f32) (h3 : a3.IsWhole)
    (a4 : Memref sig .tc .vmem S64x768 .f32) (h4 : a4.IsWhole)
    (a5 : Memref sig .tc .vmem S768 .f32) (h5 : a5.IsWhole)
    (a6 : Memref sig .tc .vmem S768x2048 .bf16) (h6 : a6.IsWhole)
    (a7 : Memref sig .tc .vmem S64x32x768 .f32) (h7 : a7.IsWhole)
    (a8 : Memref sig .tc .vmem S64x32 .f32) (h8 : a8.IsWhole)
    (a9 : Memref sig .tc .vmem S64x768 .f32) (h9 : a9.IsWhole)
    (a10 : Memref sig .tc .vmem S512x768 .f32) (h10 : a10.IsWhole)
    (a11 : Memref sig .tc .vmem S1x2048 .f32) (h11 : a11.IsWhole)
    (a12 : Memref sig .tc .vmem S64x2048 .bf16) (h12 : a12.IsWhole)
    (a13 : Memref sig .tc .vmem S2048x768 .bf16) (h13 : a13.IsWhole)
    (hc : cond0_0 i)
    (x0 : Vec F S512x768 .f32)
    (x1 : Vec F S768x64 .f32)
    (x2 : Vec F S64 .f32)
    (x3 : Vec F S64x768 .f32)
    (x4 : Vec F S768 .f32)
    (x5 : Vec F S768x2048 .bf16)
    (x6 : Vec F S64x32x768 .f32)
    (x7 : Vec F S64x32 .f32)
    (x8 : Vec F S64x768 .f32) :
    out0_A_9 c i a1 h1 a2 h2 a3 h3 a4 h4 a5 h5 a6 h6 a7 h7 a8 h8 a9 h9 a10 h10 a11 h11 a12 h12 a13 h13 hc x0 x1 x2 x3 x4 x5 x6 x7 x8
      = outBlock x0 x1 x2 x3 x4 x5 x8 (keptConst x5 x7 x8) (k0_pay3 (F := F)) (k0_pay4 x6) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero hz2]
  unfold outBlock keptConst
  simp only [View.readCov_unit_zero (S := S1x2048) _ hz2, View.readCov_unit_zero (S := S64x2048) _ hz2,
    View.readCov_unit_zero (S := S2048x768) _ hz2, View.readAt_eq_ld, h1.read_unread, h2.read_unread, h3.read_unread, h4.read_unread, h5.read_unread, h6.read_unread, h7.read_unread,
    h8.read_unread, h9.read_unread,
    View.ld_unit_zero (S := S512x768) hz2, View.ld_unit_zero (S := S768x64) hz2, View.ld_unit_zero (S := S64) hz1,
    View.ld_unit_zero (S := S64x768) hz2, View.ld_unit_zero (S := S768) hz1, View.ld_unit_zero (S := S768x2048) hz2,
    View.ld_unit_zero (S := S64x32x768) hz3, View.ld_unit_zero (S := S64x32) hz2, View.ld_unit_zero (S := S1x2048) hz2,
    View.ld_unit_zero (S := S64x2048) hz2, View.ld_unit_zero (S := S2048x768) hz2]

/-- The row of constants, as the first point leaves it. -/
theorem kept_A_0 (c : Dev nD) (i : grid0.Coords)
    (a1 : Memref sig .tc .vmem S512x768 .f32) (h1 : a1.IsWhole)
    (a2 : Memref sig .tc .vmem S768x64 .f32) (h2 : a2.IsWhole)
    (a3 : Memref sig .tc .vmem S64 .f32) (h3 : a3.IsWhole)
    (a4 : Memref sig .tc .vmem S64x768 .f32) (h4 : a4.IsWhole)
    (a5 : Memref sig .tc .vmem S768 .f32) (h5 : a5.IsWhole)
    (a6 : Memref sig .tc .vmem S768x2048 .bf16) (h6 : a6.IsWhole)
    (a7 : Memref sig .tc .vmem S64x32x768 .f32) (h7 : a7.IsWhole)
    (a8 : Memref sig .tc .vmem S64x32 .f32) (h8 : a8.IsWhole)
    (a9 : Memref sig .tc .vmem S64x768 .f32) (h9 : a9.IsWhole)
    (a10 : Memref sig .tc .vmem S512x768 .f32) (h10 : a10.IsWhole)
    (a11 : Memref sig .tc .vmem S1x2048 .f32) (h11 : a11.IsWhole)
    (a12 : Memref sig .tc .vmem S64x2048 .bf16) (h12 : a12.IsWhole)
    (a13 : Memref sig .tc .vmem S2048x768 .bf16) (h13 : a13.IsWhole)
    (hc : cond0_0 i)
    (x0 : Vec F S512x768 .f32)
    (x1 : Vec F S768x64 .f32)
    (x2 : Vec F S64 .f32)
    (x3 : Vec F S64x768 .f32)
    (x4 : Vec F S768 .f32)
    (x5 : Vec F S768x2048 .bf16)
    (x6 : Vec F S64x32x768 .f32)
    (x7 : Vec F S64x32 .f32)
    (x8 : Vec F S64x768 .f32) :
    sout0_A_0 c i a1 h1 a2 h2 a3 h3 a4 h4 a5 h5 a6 h6 a7 h7 a8 h8 a9 h9 a10 h10 a11 h11 a12 h12 a13 h13 hc x0 x1 x2 x3 x4 x5 x6 x7 x8
      = keptConst x5 x7 x8 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero hz2]
  unfold keptConst
  simp only [View.readAt_eq_ld, h1.read_unread, h2.read_unread, h3.read_unread, h4.read_unread, h5.read_unread, h6.read_unread, h7.read_unread,
    h8.read_unread, h9.read_unread,
    View.ld_unit_zero (S := S512x768) hz2, View.ld_unit_zero (S := S768x64) hz2, View.ld_unit_zero (S := S64) hz1,
    View.ld_unit_zero (S := S64x768) hz2, View.ld_unit_zero (S := S768) hz1, View.ld_unit_zero (S := S768x2048) hz2,
    View.ld_unit_zero (S := S64x32x768) hz3, View.ld_unit_zero (S := S64x32) hz2, View.ld_unit_zero (S := S1x2048) hz2,
    View.ld_unit_zero (S := S64x2048) hz2, View.ld_unit_zero (S := S2048x768) hz2]

/-- The membership table of flat latents in sublayers, as the first point leaves it. -/
theorem kept_A_1 (c : Dev nD) (i : grid0.Coords)
    (a1 : Memref sig .tc .vmem S512x768 .f32) (h1 : a1.IsWhole)
    (a2 : Memref sig .tc .vmem S768x64 .f32) (h2 : a2.IsWhole)
    (a3 : Memref sig .tc .vmem S64 .f32) (h3 : a3.IsWhole)
    (a4 : Memref sig .tc .vmem S64x768 .f32) (h4 : a4.IsWhole)
    (a5 : Memref sig .tc .vmem S768 .f32) (h5 : a5.IsWhole)
    (a6 : Memref sig .tc .vmem S768x2048 .bf16) (h6 : a6.IsWhole)
    (a7 : Memref sig .tc .vmem S64x32x768 .f32) (h7 : a7.IsWhole)
    (a8 : Memref sig .tc .vmem S64x32 .f32) (h8 : a8.IsWhole)
    (a9 : Memref sig .tc .vmem S64x768 .f32) (h9 : a9.IsWhole)
    (a10 : Memref sig .tc .vmem S512x768 .f32) (h10 : a10.IsWhole)
    (a11 : Memref sig .tc .vmem S1x2048 .f32) (h11 : a11.IsWhole)
    (a12 : Memref sig .tc .vmem S64x2048 .bf16) (h12 : a12.IsWhole)
    (a13 : Memref sig .tc .vmem S2048x768 .bf16) (h13 : a13.IsWhole)
    (hc : cond0_0 i)
    (x0 : Vec F S512x768 .f32)
    (x1 : Vec F S768x64 .f32)
    (x2 : Vec F S64 .f32)
    (x3 : Vec F S64x768 .f32)
    (x4 : Vec F S768 .f32)
    (x5 : Vec F S768x2048 .bf16)
    (x6 : Vec F S64x32x768 .f32)
    (x7 : Vec F S64x32 .f32)
    (x8 : Vec F S64x768 .f32) :
    sout0_A_1 c i a1 h1 a2 h2 a3 h3 a4 h4 a5 h5 a6 h6 a7 h7 a8 h8 a9 h9 a10 h10 a11 h11 a12 h12 a13 h13 hc x0 x1 x2 x3 x4 x5 x6 x7 x8
      = k0_pay3 (F := F) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero hz2]

/-- The flattened decoder weights, as the first point leaves them. -/
theorem kept_A_2 (c : Dev nD) (i : grid0.Coords)
    (a1 : Memref sig .tc .vmem S512x768 .f32) (h1 : a1.IsWhole)
    (a2 : Memref sig .tc .vmem S768x64 .f32) (h2 : a2.IsWhole)
    (a3 : Memref sig .tc .vmem S64 .f32) (h3 : a3.IsWhole)
    (a4 : Memref sig .tc .vmem S64x768 .f32) (h4 : a4.IsWhole)
    (a5 : Memref sig .tc .vmem S768 .f32) (h5 : a5.IsWhole)
    (a6 : Memref sig .tc .vmem S768x2048 .bf16) (h6 : a6.IsWhole)
    (a7 : Memref sig .tc .vmem S64x32x768 .f32) (h7 : a7.IsWhole)
    (a8 : Memref sig .tc .vmem S64x32 .f32) (h8 : a8.IsWhole)
    (a9 : Memref sig .tc .vmem S64x768 .f32) (h9 : a9.IsWhole)
    (a10 : Memref sig .tc .vmem S512x768 .f32) (h10 : a10.IsWhole)
    (a11 : Memref sig .tc .vmem S1x2048 .f32) (h11 : a11.IsWhole)
    (a12 : Memref sig .tc .vmem S64x2048 .bf16) (h12 : a12.IsWhole)
    (a13 : Memref sig .tc .vmem S2048x768 .bf16) (h13 : a13.IsWhole)
    (hc : cond0_0 i)
    (x0 : Vec F S512x768 .f32)
    (x1 : Vec F S768x64 .f32)
    (x2 : Vec F S64 .f32)
    (x3 : Vec F S64x768 .f32)
    (x4 : Vec F S768 .f32)
    (x5 : Vec F S768x2048 .bf16)
    (x6 : Vec F S64x32x768 .f32)
    (x7 : Vec F S64x32 .f32)
    (x8 : Vec F S64x768 .f32) :
    sout0_A_2 c i a1 h1 a2 h2 a3 h3 a4 h4 a5 h5 a6 h6 a7 h7 a8 h8 a9 h9 a10 h10 a11 h11 a12 h12 a13 h13 hc x0 x1 x2 x3 x4 x5 x6 x7 x8
      = k0_pay4 x6 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_unit_zero hz2]
  simp only [View.readAt_eq_ld, h1.read_unread, h2.read_unread, h3.read_unread, h4.read_unread, h5.read_unread, h6.read_unread, h7.read_unread,
    h8.read_unread, h9.read_unread,
    View.ld_unit_zero (S := S512x768) hz2, View.ld_unit_zero (S := S768x64) hz2, View.ld_unit_zero (S := S64) hz1,
    View.ld_unit_zero (S := S64x768) hz2, View.ld_unit_zero (S := S768) hz1, View.ld_unit_zero (S := S768x2048) hz2,
    View.ld_unit_zero (S := S64x32x768) hz3, View.ld_unit_zero (S := S64x32) hz2, View.ld_unit_zero (S := S1x2048) hz2,
    View.ld_unit_zero (S := S64x2048) hz2, View.ld_unit_zero (S := S2048x768) hz2]

end Cert.Proof

end
-- ==== Proof.Carry.lean ====
/-
  What the three scratch arrays and the output block hold after every point: the first point fills the scratch arrays, the
  later points leave them alone, and each point writes the output block of its own rows.
-/
module

public import proofs.«01_k».proof.Proof.Point

@[expose] public section

noncomputable section

namespace Cert.Proof

open Idealize.ShloMosaic Idealize.ShloMosaic.TcCoe Idealize.SL.Sem
open Cert.KernelIdeal Cert.KernelIdeal.Gen Cert.KernelIdeal.Value

variable {F : FTy → Type} [FloatOps F]
variable (m : (ℓ : Loc nD τ sig) → Buf (Elt F) ℓ)

/-- The grid's first point. -/
def first : Fin cfg0.N := ⟨0, by rw [show cfg0.N = 4 from N_0]; decide⟩

/-- After every point the scratch arrays hold what the first point stored. -/
theorem kept_eq (c : Dev nD) : ∀ (n : ℕ) (h : n < cfg0.N), (outsAt0 m c n h).2
    = (keptConst (iblk m c 5 first) (iblk m c 7 first) (iblk m c 8 first), k0_pay3 (F := F), k0_pay4 (iblk m c 6 first))
  | 0, h => by
    rw [outsAt0_A m c ⟨0, h⟩ rfl]
    dsimp only
    rw [kept_A_0, kept_A_1, kept_A_2]
    rfl
  | n + 1, h => by
    have hN : cfg0.N = 4 := N_0
    have hB : ¬(⟨n + 1, h⟩ : Fin cfg0.N).val % 4 = 0 := by dsimp only; omega
    rw [outsAt0_B m c ⟨n + 1, h⟩ hB]
    dsimp only
    unfold sout0_B_0 sout0_B_1 sout0_B_2
    exact kept_eq c n (Nat.lt_of_succ_lt h)

/-- Every point leaves in the output's block the output block of its rows, over what the first point stored. -/
theorem out_eq (c : Dev nD) (t : Fin cfg0.N) : (outsAt0 m c t.val t.isLt).1
    = outBlock (iblk m c 0 t) (iblk m c 1 t) (iblk m c 2 t) (iblk m c 3 t) (iblk m c 4 t) (iblk m c 5 t) (iblk m c 8 t)
        (keptConst (iblk m c 5 first) (iblk m c 7 first) (iblk m c 8 first)) (k0_pay3 (F := F)) (k0_pay4 (iblk m c 6 first)) := by
  by_cases h0 : t.val % 4 = 0
  · have hN : cfg0.N = 4 := N_0
    obtain rfl : t = first := Fin.ext (by have := t.isLt; show t.val = 0; omega)
    rw [outsAt0_A m c first h0]
    dsimp only
    rw [out_A]
  · rw [outsAt0_B m c t h0]
    dsimp only
    rw [out_B, kept_eq m c (t.val - 1)]

end Cert.Proof

end
-- ==== Proof.Blocks.lean ====
/-
  What each block a point loads holds, in terms of the kernel's arguments: the rows of `x` move with the point, every other
  block is a whole array, and the flattened encoder weights are the argument with its first two axes exchanged.
-/
module

public import proofs.«01_k».proof.Proof.Point
public import Idealize.ShloMosaic.Lib.Claim
public import Idealize.ShloMosaic.Lib.Pointwise

@[expose] public section

noncomputable section

namespace Cert.Proof

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Point `t` loads the rows of `x` from row `512 t` on. -/
theorem block_x (c : Dev nD) (t : Fin cfg0.N) (r : Fin 512) (d : Fin 768) (h : 512 * t.val + r.val < 2048) :
    (iblk m c 0 t : Vec F S512x768 .f32) (ix2 r d) = m ((c : Thread nD τ).loc main_arg0) (ix2 ⟨512 * t.val + r.val, h⟩ d) := by
  have hi : win0_0.index t 0 = t.val ∧ win0_0.index t 1 = 0 := by
    rcases fin_N0 t with rfl | rfl | rfl | rfl <;> decide
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 768 + 1 * d.val = d.val; rw [hi.2]; omega

/-- Every point loads the first encoder's weights whole. -/
theorem block_arg1 (c : Dev nD) (t : Fin cfg0.N) : iblk m c 1 t = m ((c : Thread nD τ).loc main_arg1) := by
  have hz : (fun a => win0_1.index t a * main_arg1.ty.shape.size a) = fun _ => 0 := funext fun a => by
    rcases fin_N0 t with rfl | rfl | rfl | rfl <;> fin_cases a <;> decide
  unfold iblk
  exact (Memref.read_access_unit_zero (Elt F) main_arg1 hz (fun a => by rw [congrFun hz a]; simp) _).trans (V_main_arg1 m c)

/-- Every point loads the first encoder's biases whole. -/
theorem block_arg2 (c : Dev nD) (t : Fin cfg0.N) : iblk m c 2 t = m ((c : Thread nD τ).loc main_arg2) := by
  have hz : (fun a => win0_2.index t a * main_arg2.ty.shape.size a) = fun _ => 0 := funext fun a => by
    rcases fin_N0 t with rfl | rfl | rfl | rfl <;> fin_cases a <;> decide
  unfold iblk
  exact (Memref.read_access_unit_zero (Elt F) main_arg2 hz (fun a => by rw [congrFun hz a]; simp) _).trans (V_main_arg2 m c)

/-- Every point loads the first decoder's weights whole. -/
theorem block_arg3 (c : Dev nD) (t : Fin cfg0.N) : iblk m c 3 t = m ((c : Thread nD τ).loc main_arg3) := by
  have hz : (fun a => win0_3.index t a * main_arg3.ty.shape.size a) = fun _ => 0 := funext fun a => by
    rcases fin_N0 t with rfl | rfl | rfl | rfl <;> fin_cases a <;> decide
  unfold iblk
  exact (Memref.read_access_unit_zero (Elt F) main_arg3 hz (fun a => by rw [congrFun hz a]; simp) _).trans (V_main_arg3 m c)

/-- Every point loads the first decoder's bias whole. -/
theorem block_arg4 (c : Dev nD) (t : Fin cfg0.N) : iblk m c 4 t = m ((c : Thread nD τ).loc main_arg4) := by
  have hz : (fun a => win0_4.index t a * main_arg4.ty.shape.size a) = fun _ => 0 := funext fun a => by
    rcases fin_N0 t with rfl | rfl | rfl | rfl <;> fin_cases a <;> decide
  unfold iblk
  exact (Memref.read_access_unit_zero (Elt F) main_arg4 hz (fun a => by rw [congrFun hz a]; simp) _).trans (V_main_arg4 m c)

/-- Every point loads the sublayers' decoder weights whole. -/
theorem block_arg7 (c : Dev nD) (t : Fin cfg0.N) : iblk m c 6 t = m ((c : Thread nD τ).loc main_arg7) := by
  have hz : (fun a => win0_6.index t a * main_arg7.ty.shape.size a) = fun _ => 0 := funext fun a => by
    rcases fin_N0 t with rfl | rfl | rfl | rfl <;> fin_cases a <;> decide
  unfold iblk
  exact (Memref.read_access_unit_zero (Elt F) main_arg7 hz (fun a => by rw [congrFun hz a]; simp) _).trans (V_main_arg7 m c)

/-- Every point loads the sublayers' encoder biases whole. -/
theorem block_arg6 (c : Dev nD) (t : Fin cfg0.N) : iblk m c 7 t = m ((c : Thread nD τ).loc main_arg6) := by
  have hz : (fun a => win0_7.index t a * main_arg6.ty.shape.size a) = fun _ => 0 := funext fun a => by
    rcases fin_N0 t with rfl | rfl | rfl | rfl <;> fin_cases a <;> decide
  unfold iblk
  exact (Memref.read_access_unit_zero (Elt F) main_arg6 hz (fun a => by rw [congrFun hz a]; simp) _).trans (V_main_arg6 m c)

/-- Every point loads the sublayers' decoder biases whole. -/
theorem block_arg8 (c : Dev nD) (t : Fin cfg0.N) : iblk m c 8 t = m ((c : Thread nD τ).loc main_arg8) := by
  have hz : (fun a => win0_8.index t a * main_arg8.ty.shape.size a) = fun _ => 0 := funext fun a => by
    rcases fin_N0 t with rfl | rfl | rfl | rfl <;> fin_cases a <;> decide
  unfold iblk
  exact (Memref.read_access_unit_zero (Elt F) main_arg8 hz (fun a => by rw [congrFun hz a]; simp) _).trans (V_main_arg8 m c)

/-- Every point loads the flattened encoder weights whole: what the host operations before the launch left. -/
theorem block_main_v2 (c : Dev nD) (t : Fin cfg0.N) : iblk m c 5 t
    = shapeCast S768x2048 (transpose S768x64x32 [1, 0, 2] (truncf .bf16 (m ((c : Thread nD τ).loc main_arg5) : Vec F S64x768x32 .f32) bitsLt_bf16_f32)
        transposes_S64x768x32_S768x64x32_1_0_2) shapeCasts_S768x64x32_S768x2048 := by
  have hz : (fun a => win0_5.index t a * main_v2.ty.shape.size a) = fun _ => 0 := funext fun a => by
    rcases fin_N0 t with rfl | rfl | rfl | rfl <;> fin_cases a <;> decide
  unfold iblk
  refine (Memref.read_access_unit_zero (Elt F) main_v2 hz (fun a => by rw [congrFun hz a]; simp) _).trans ?_
  show V m c main_v2 = _
  entry_read
  rfl

end Cert.Proof

end
-- ==== Proof.Algebra.lean ====
/-
  Facts about sums of extended reals: where a product distributes over a difference, and how a sum over flat positions splits.
-/
module

public import Idealize.ShloMosaic.Lib.Pointwise
public import Idealize.ShloMosaic.PureOps

@[expose] public section

noncomputable section

namespace Cert.Proof

open Idealize.ShloMosaic

/-- An extended real that is no infinity, times a difference. -/
theorem real_mul_sub (a : EReal) (b w : ℝ) : (w : EReal) * (a - (b : EReal)) = a * (w : EReal) - (b : EReal) * (w : EReal) := by
  induction a with
  | bot =>
    rcases lt_trichotomy w 0 with h | rfl | h
    · rw [EReal.bot_sub, EReal.coe_mul_bot_of_neg h, EReal.bot_mul_coe_of_neg h, ← EReal.coe_mul, EReal.top_sub_coe]
    · simp
    · rw [EReal.bot_sub, EReal.coe_mul_bot_of_pos h, EReal.bot_mul_coe_of_pos h, EReal.bot_sub]
  | coe r => norm_cast; ring
  | top =>
    rcases lt_trichotomy w 0 with h | rfl | h
    · rw [EReal.top_sub_coe, EReal.coe_mul_top_of_neg h, EReal.top_mul_coe_of_neg h, EReal.bot_sub]
    · simp
    · rw [EReal.top_sub_coe, EReal.coe_mul_top_of_pos h, EReal.top_mul_coe_of_pos h, ← EReal.coe_mul, EReal.top_sub_coe]

/-- A finite sum of differences by reals is the difference of the sums. -/
theorem sum_sub_real {ι : Type} (s : Finset ι) (a : ι → EReal) (r : ι → ℝ) :
    ∑ d ∈ s, (a d - (r d : EReal)) = ∑ d ∈ s, a d - ∑ d ∈ s, (r d : EReal) := by
  have e (q : ℝ) : -(q : EReal) = ((-q : ℝ) : EReal) := (EReal.coe_neg q).symm
  have hs : ∑ d ∈ s, (r d : EReal) = ((∑ d ∈ s, r d : ℝ) : EReal) := by
    induction s using Finset.cons_induction with
    | empty => simp
    | cons i s hi ih => rw [Finset.sum_cons, Finset.sum_cons, ih, EReal.coe_add]
  have hn : ∑ d ∈ s, ((-r d : ℝ) : EReal) = ((-∑ d ∈ s, r d : ℝ) : EReal) := by
    clear hs
    induction s using Finset.cons_induction with
    | empty => simp
    | cons i s hi ih => rw [Finset.sum_cons, Finset.sum_cons, ih, ← EReal.coe_add]; congr 1; ring
  rw [hs]
  simp only [sub_eq_add_neg, e]
  rw [Finset.sum_add_distrib, hn]

/-- The encoder's product with a centred row is its product with the row less its product with the centre. -/
theorem centred_dot {ι : Type} [Fintype ι] (x b w : ι → EReal) (β : EReal) (hb : ∀ d, b d ≠ ⊥ ∧ b d ≠ ⊤) (hw : ∀ d, w d ≠ ⊥ ∧ w d ≠ ⊤) :
    ∑ d, w d * (x d - b d) + β = ∑ d, x d * w d + (β - ∑ d, b d * w d) := by
  have hb' : ∀ d, ((b d).toReal : EReal) = b d := fun d => EReal.coe_toReal (hb d).2 (hb d).1
  have hw' : ∀ d, ((w d).toReal : EReal) = w d := fun d => EReal.coe_toReal (hw d).2 (hw d).1
  have h1 : ∀ d, w d * (x d - b d) = x d * w d - (((b d).toReal * (w d).toReal : ℝ) : EReal) := fun d => by
    rw [← hb', ← hw', real_mul_sub, ← EReal.coe_mul]; simp
  have h2 : ∀ d, b d * w d = (((b d).toReal * (w d).toReal : ℝ) : EReal) := fun d => by
    rw [EReal.coe_mul, hb', hw']
  simp only [h1, h2]
  rw [sum_sub_real, sub_eq_add_neg, sub_eq_add_neg, add_assoc, add_comm β]

/-- A sum over 2048 flat positions is the double sum over 64 groups of 32. -/
theorem sum_groups (f : Fin 64 → Fin 32 → EReal) :
    ∑ p : Fin 2048, f ⟨p.val / 32, by omega⟩ ⟨p.val % 32, by omega⟩ = ∑ n, ∑ k, f n k := by
  rw [← Fintype.sum_prod_type']
  exact Fintype.sum_equiv (finProdFinEquiv (m := 64) (n := 32)).symm _ _ fun p => rfl

/-- A zero-one factor taken out of a sum of products that each hold it already, and of the term added. -/
theorem gated_group {ι : Type} [Fintype ι] (p : Prop) [Decidable p] (w a : ι → EReal) (β : EReal) :
    (∑ k, w k * (a k * if p then 1 else 0) + β) * (if p then 1 else 0)
      = ∑ k, (a k * if p then 1 else 0) * w k + (if p then 1 else 0) * β := by
  by_cases h : p
  · simp only [if_pos h, mul_one, one_mul]
    exact congrArg (· + β) (Finset.sum_congr rfl fun k _ => mul_comm _ _)
  · simp [if_neg h]

/-- A comparison's bit, widened and read as a signed integer, is one where the comparison holds and zero elsewhere. -/
theorem signed_bit (p : Prop) [Decidable p] :
    FloatOps.sitofp (F := Ideal) FTy.f32 (BitVec.setWidth 32 (BitVec.ofBool (decide p))) = if p then (1 : EReal) else 0 := by
  by_cases h : p
  · simp only [h, decide_true, if_true]
    show (((BitVec.setWidth 32 (BitVec.ofBool true)).toInt : ℝ) : EReal) = 1
    rw [show (BitVec.setWidth 32 (BitVec.ofBool true)).toInt = 1 by decide]
    norm_num
  · simp only [h, decide_false, if_false]
    show (((BitVec.setWidth 32 (BitVec.ofBool false)).toInt : ℝ) : EReal) = 0
    rw [show (BitVec.setWidth 32 (BitVec.ofBool false)).toInt = 0 by decide]
    norm_num

/-- A comparison's bit, read as an unsigned integer, is one where the comparison holds and zero elsewhere. -/
theorem unsigned_bit (p : Prop) [Decidable p] :
    FloatOps.uitofp (F := Ideal) FTy.f32 (BitVec.ofBool (decide p)) = if p then (1 : EReal) else 0 := by
  by_cases h : p
  · simp only [h, decide_true, if_true]
    show (((BitVec.ofBool true).toNat : ℝ) : EReal) = 1
    rw [show (BitVec.ofBool true).toNat = 1 by decide]
    norm_num
  · simp only [h, decide_false, if_false]
    show (((BitVec.ofBool false).toNat : ℝ) : EReal) = 0
    rw [show (BitVec.ofBool false).toNat = 0 by decide]
    norm_num

end Cert.Proof

end
-- ==== Proof.Formula.lean ====
/-
  The two formulas: what the reference computes at a row and a column, and what the kernel computes there; and their equality
  where the sublayers' encoder weights and decoder biases are no infinities.
-/
module

public import proofs.«01_k».proof.Proof.Algebra

@[expose] public section

noncomputable section

namespace Cert.Proof

open Idealize.ShloMosaic

/-- A matrix of extended reals. -/
abbrev Mat (a b : Nat) : Type := (⟨2, ![a, b]⟩ : Shape).Idx → EReal

/-- A vector of extended reals. -/
abbrev Row (a : Nat) : Type := (⟨1, ![a]⟩ : Shape).Idx → EReal

/-- A three-axis array of extended reals. -/
abbrev Box (a b c : Nat) : Type := (⟨3, ![a, b, c]⟩ : Shape).Idx → EReal

/-- The first layer's activation of latent `n` on row `b`. -/
def act0 (x : Mat 2048 768) (w0 : Mat 768 64) (b0 : Row 64) (c0 : Row 768) (b : Fin 2048) (n : Fin 64) : EReal :=
  max (∑ d, (x (ix2 b d) - c0 (ix1 d)) * w0 (ix2 d n) + b0 (ix1 n)) 0

/-- The first layer's reconstruction of column `e` from its activations `a`. -/
def base (a : Fin 64 → EReal) (u0 : Mat 64 768) (c0 : Row 768) (e : Fin 768) : EReal :=
  ∑ n, a n * u0 (ix2 n e) + c0 (ix1 e)

/-- The gate of a sublayer: one where its latent's activation is positive, zero elsewhere. -/
def gate (a : Fin 64 → EReal) (n : Fin 64) : EReal := if 0 < a n then 1 else 0

/-- The reference's formula: the first layer's reconstruction plus the sum of the sublayers' gated reconstructions. -/
def plain (x : Mat 2048 768) (w0 : Mat 768 64) (b0 : Row 64) (u0 : Mat 64 768) (c0 : Row 768) (w : Box 64 768 32) (be : Mat 64 32)
    (u : Box 64 32 768) (bd : Mat 64 768) (b : Fin 2048) (e : Fin 768) : EReal :=
  base (act0 x w0 b0 c0 b) u0 c0 e
    + ∑ n, (∑ k, u (ix3 n k e) * (max (∑ d, w (ix3 n d k) * (x (ix2 b d) - bd (ix2 n d)) + be (ix2 n k)) 0
        * gate (act0 x w0 b0 c0 b) n) + bd (ix2 n e)) * gate (act0 x w0 b0 c0 b) n

/-- The sublayer a flat latent belongs to. -/
def sub (f : Fin 2048) : Fin 64 := ⟨f.val / 32, by omega⟩

/-- The place of a flat latent in its sublayer. -/
def lat (f : Fin 2048) : Fin 32 := ⟨f.val % 32, by omega⟩

/-- The kernel's constant of flat latent `f`: its encoder bias less the product of its sublayer's decoder bias with its
    encoder column. -/
def offset (w : Box 64 768 32) (be : Mat 64 32) (bd : Mat 64 768) (f : Fin 2048) : EReal :=
  be (ix2 (sub f) (lat f)) - ∑ d, bd (ix2 (sub f) d) * w (ix3 (sub f) d (lat f))

/-- The kernel's formula: one product over all flat latents, each gated by its sublayer, and the gated biases added apart. -/
def fused (x : Mat 2048 768) (w0 : Mat 768 64) (b0 : Row 64) (u0 : Mat 64 768) (c0 : Row 768) (w : Box 64 768 32) (be : Mat 64 32)
    (u : Box 64 32 768) (bd : Mat 64 768) (b : Fin 2048) (e : Fin 768) : EReal :=
  base (act0 x w0 b0 c0 b) u0 c0 e
    + ∑ f, (max (∑ d, x (ix2 b d) * w (ix3 (sub f) d (lat f)) + offset w be bd f) 0 * gate (act0 x w0 b0 c0 b) (sub f))
        * u (ix3 (sub f) (lat f) e)
    + ∑ n, gate (act0 x w0 b0 c0 b) n * bd (ix2 n e)

/-- The two formulas agree where no encoder weight and no decoder bias of the sublayers is an infinity. -/
theorem fused_eq_plain (x : Mat 2048 768) (w0 : Mat 768 64) (b0 : Row 64) (u0 : Mat 64 768) (c0 : Row 768) (w : Box 64 768 32)
    (be : Mat 64 32) (u : Box 64 32 768) (bd : Mat 64 768) (hw : ∀ i, w i ≠ ⊥ ∧ w i ≠ ⊤) (hbd : ∀ i, bd i ≠ ⊥ ∧ bd i ≠ ⊤)
    (b : Fin 2048) (e : Fin 768) : fused x w0 b0 u0 c0 w be u bd b e = plain x w0 b0 u0 c0 w be u bd b e := by
  unfold fused plain
  rw [add_assoc]
  congr 1
  have hs := sum_groups fun n k => (max (∑ d, x (ix2 b d) * w (ix3 n d k)
    + (be (ix2 n k) - ∑ d, bd (ix2 n d) * w (ix3 n d k))) 0 * gate (act0 x w0 b0 c0 b) n) * u (ix3 n k e)
  refine (congrArg (· + _) hs).trans ?_
  rw [← Finset.sum_add_distrib]
  refine Finset.sum_congr rfl fun n _ => ?_
  unfold gate
  rw [gated_group]
  congr 1
  refine Finset.sum_congr rfl fun k _ => ?_
  rw [centred_dot _ _ _ _ (fun d => hbd _) (fun d => hw _)]

end Cert.Proof

end
-- ==== Proof.Reading.lean ====
/-
  The kernel's stored values at one place, over the extended reals: the membership table of flat latents in sublayers, the row
  of constants, the flattened weights, and the output block.
-/
module

public import proofs.«01_k».proof.Proof.Point
public import proofs.«01_k».proof.Proof.Formula

@[expose] public section

noncomputable section

namespace Cert.Proof

open Idealize.ShloMosaic Idealize.ShloMosaic.TcCoe Idealize.SL.Sem
open Cert.KernelIdeal Cert.KernelIdeal.Gen

set_option maxRecDepth 65536 in
/-- The kernel's floor division of a flat latent by 32 is the sublayer's number. -/
theorem sub_word (f : Fin 2048) :
    Scalar.select
        (IntOp.andi
          (IntOp.cmpi CmpIPredicate.ne
            (IntOp.subi (BitVec.setWidth 32 (IntOp.cmpi CmpIPredicate.sgt (BitVec.ofNat 32 f.val) 0#32))
              (BitVec.setWidth 32 (IntOp.cmpi CmpIPredicate.slt (BitVec.ofNat 32 f.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 f.val) 32#32) 0#32))
        (IntOp.subi (IntOp.divsi ArithUnit.vector (BitVec.ofNat 32 f.val) 32#32) 1#32)
        (IntOp.divsi ArithUnit.vector (BitVec.ofNat 32 f.val) 32#32)
      = BitVec.ofNat 32 (sub f).val := by
  revert f
  decide +kernel

set_option maxRecDepth 65536 in
/-- The kernel's remainder of a flat latent by 32 is its place in the sublayer. -/
theorem lat_word (f : Fin 2048) :
    Scalar.select
        (IntOp.andi
          (IntOp.xori
            (IntOp.cmpi CmpIPredicate.slt (IntOp.remsi ArithUnit.vector (BitVec.ofNat 32 f.val) 32#32) 0#32)
            (Scalar.cmpi CmpIPredicate.slt 32#32 0#32))
          (IntOp.cmpi CmpIPredicate.ne (IntOp.remsi ArithUnit.vector (BitVec.ofNat 32 f.val) 32#32) 0#32))
        (IntOp.addi (IntOp.remsi ArithUnit.vector (BitVec.ofNat 32 f.val) 32#32) 32#32)
        (IntOp.remsi ArithUnit.vector (BitVec.ofNat 32 f.val) 32#32)
      = BitVec.ofNat 32 (lat f).val := by
  revert f
  decide +kernel

/-- Two small numbers' words compare equal exactly where the numbers are equal. -/
theorem eq_word (n : Nat) (hn : n ≤ 2048) (a b : Fin n) :
    IntOp.cmpi CmpIPredicate.eq (BitVec.ofNat 32 a.val) (BitVec.ofNat 32 b.val) = BitVec.ofBool (decide (a = b)) := by
  show BitVec.ofBool (BitVec.ofNat 32 a.val == BitVec.ofNat 32 b.val) = _
  congr 1
  rw [Bool.eq_iff_iff, beq_iff_eq, decide_eq_true_iff]
  constructor
  · intro h
    have h' := congrArg BitVec.toNat h
    simp only [BitVec.toNat_ofNat] at h'
    apply Fin.ext
    have := a.isLt
    have := b.isLt
    omega
  · rintro rfl
    rfl

/-- The membership table holds one where the flat latent is in the sublayer, zero elsewhere. -/
theorem member_apply (n : Fin 64) (f : Fin 2048) : k0_pay2 (F := Ideal) (ix2 n f) = if sub f = n then 1 else 0 := by
  pointwise [k0_pay2]
  rw [sub_word, eq_word 64 (by decide), signed_bit]

/-- The stored membership table is the same table. -/
theorem member_kept_apply (n : Fin 64) (f : Fin 2048) : k0_pay3 (F := Ideal) (ix2 n f) = if sub f = n then 1 else 0 := by
  pointwise [k0_pay3]
  exact member_apply n f

/-- The flattened decoder weights hold, at a flat latent, its sublayer's weights. -/
theorem decoder_apply (u : Vec Ideal S64x32x768 .f32) (f : Fin 2048) (e : Fin 768) :
    k0_pay4 u (ix2 f e) = u (ix3 (sub f) (lat f) e) := by
  pointwise [k0_pay4]
  rfl

/-- The flattened encoder weights hold, at a flat latent, its sublayer's weights. -/
theorem encoder_apply (w : FVec Ideal S64x768x32 .f32) (d : Fin 768) (f : Fin 2048) :
    shapeCast S768x2048 (transpose S768x64x32 [1, 0, 2] (truncf .bf16 w bitsLt_bf16_f32)
        transposes_S64x768x32_S768x64x32_1_0_2) shapeCasts_S768x64x32_S768x2048 (ix2 d f) = w (ix3 (sub f) d (lat f)) := by
  pointwise
  rfl

/-- A sum against a row of the membership table picks the sublayer's term. -/
theorem sum_member (a : Fin 64 → EReal) (f : Fin 2048) : ∑ n, a n * (if sub f = n then 1 else 0) = a (sub f) := by
  simp only [mul_ite, mul_one, mul_zero, Finset.sum_ite_eq, Finset.mem_univ, if_true]

/-- A sum against a row of the membership table, on the other side, picks the sublayer's term. -/
theorem member_sum (a : Fin 64 → EReal) (f : Fin 2048) : ∑ n, (if sub f = n then 1 else 0) * a n = a (sub f) := by
  simp only [ite_mul, one_mul, zero_mul, Finset.sum_ite_eq, Finset.mem_univ, if_true]

/-- A sum against the table of places picks the latent's term. -/
theorem sum_place (a : Fin 32 → EReal) (f : Fin 2048) : ∑ k, a k * (if lat f = k then 1 else 0) = a (lat f) := by
  simp only [mul_ite, mul_one, mul_zero, Finset.sum_ite_eq, Finset.mem_univ, if_true]

/-- The stored row of constants, at a flat latent. -/
theorem keptConst_apply (w : Vec Ideal S768x2048 .bf16) (be : Vec Ideal S64x32 .f32) (bd : Vec Ideal S64x768 .f32) (f : Fin 2048) :
    keptConst w be bd (ix2 0 f)
      = (be (ix2 (sub f) (lat f)) : EReal) - ∑ d, (bd (ix2 (sub f) d) : EReal) * (w (ix2 d f) : EReal) := by
  pointwise [keptConst, k0_pay5]
  simp only [lat_word, eq_word 32 (by decide), signed_bit, member_apply]
  rw [member_sum, member_sum, sum_place]

/-- The first layer's activation as a point computes it from its rows. -/
def actOf (x : Mat 512 768) (w0 : Mat 768 64) (b0 : Row 64) (c0 : Row 768) (r : Fin 512) (n : Fin 64) : EReal :=
  max (∑ d, (x (ix2 r d) - c0 (ix1 d)) * w0 (ix2 d n) + b0 (ix1 n)) 0

/-- A point's output block at a row and a column. -/
theorem outBlock_apply (x : Vec Ideal S512x768 .f32) (w0 : Vec Ideal S768x64 .f32) (b0 : Vec Ideal S64 .f32)
    (u0 : Vec Ideal S64x768 .f32) (c0 : Vec Ideal S768 .f32) (w : Vec Ideal S768x2048 .bf16) (bd : Vec Ideal S64x768 .f32)
    (s0 : Vec Ideal S1x2048 .f32) (s2 : Vec Ideal S2048x768 .bf16) (r : Fin 512) (e : Fin 768) :
    outBlock x w0 b0 u0 c0 w bd s0 (k0_pay3 (F := Ideal)) s2 (ix2 r e)
      = base (actOf x w0 b0 c0 r) u0 c0 e
        + ∑ f, (max (∑ d, (x (ix2 r d) : EReal) * (w (ix2 d f) : EReal) + (s0 (ix2 0 f) : EReal)) 0
            * gate (actOf x w0 b0 c0 r) (sub f)) * (s2 (ix2 f e) : EReal)
        + ∑ n, gate (actOf x w0 b0 c0 r) n * (bd (ix2 n e) : EReal) := by
  pointwise [outBlock, k0_pay1, k0_pay6, k0_pay7, k0_pay8, k0_pay9, k0_pay10, k0_pay11, k0_pay12, k0_pay3]
  simp only [signed_bit, member_apply]
  simp only [sum_member]
  rfl

end Cert.Proof

end
-- ==== Proof.KernelValue.lean ====
/-
  The kernel's result array, place by place, over the extended reals: the kernel's formula of its arguments.
-/
module

public import proofs.«01_k».proof.Proof.Carry
public import proofs.«01_k».proof.Proof.Blocks
public import proofs.«01_k».proof.Proof.Reading

@[expose] public section

noncomputable section

namespace Cert.Proof

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- The block of flattened encoder weights holds, at a flat latent, its sublayer's weights. -/
theorem block_encoder (c : Dev nD) (t : Fin cfg0.N) (d : Fin 768) (f : Fin 2048) :
    (iblk m c 5 t : Vec Ideal S768x2048 .bf16) (ix2 d f) = m ((c : Thread nD τ).loc main_arg5) (ix3 (sub f) d (lat f)) :=
  (congrFun (block_main_v2 m c t) (ix2 d f)).trans (encoder_apply _ d f)

/-- Row `r` of point `t`'s output block is the kernel's formula at row `512 t + r`. -/
theorem block_value (c : Dev nD) (t : Fin cfg0.N) (r : Fin 512) (e : Fin 768) (h : 512 * t.val + r.val < 2048) :
    (outsAt0 m c t.val t.isLt).1 (ix2 r e)
      = fused (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          ⟨512 * t.val + r.val, h⟩ e := by
  have hx := fun d => block_x m c t r d h
  rw [out_eq]
  refine (outBlock_apply _ _ _ _ _ _ _ _ _ r e).trans ?_
  have hact : actOf (iblk m c 0 t) (iblk m c 1 t) (iblk m c 2 t) (iblk m c 4 t) r
      = act0 (m ((c : Thread nD τ).loc main_arg0)) (m ((c : Thread nD τ).loc main_arg1)) (m ((c : Thread nD τ).loc main_arg2))
          (m ((c : Thread nD τ).loc main_arg4)) ⟨512 * t.val + r.val, h⟩ := by
    funext n
    unfold actOf act0
    rw [block_arg1, block_arg2, block_arg4]
    simp only [hx]
  unfold fused offset
  rw [hact, block_arg3, block_arg4, block_arg8, block_arg8, block_arg7, block_arg6]
  simp only [keptConst_apply, decoder_apply, block_encoder, hx]

/-- The kernel's result array holds the kernel's formula at every place. -/
theorem result_value (c : Dev nD) (b : Fin 2048) (e : Fin 768) : G9 m c (ix2 b e)
      = fused (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) b e := by
  have hN : cfg0.N = 4 := N_0
  have hb := b.isLt
  have he := e.isLt
  have hp : pt9Of (ix2 b e) = b.val / 512 := by
    show 1 * (b.val / 512 - 0) + 1 * (e.val / 768 - 0) = _
    omega
  have ht : b.val / 512 < cfg0.N := by omega
  have hr : 512 * (b.val / 512) + b.val % 512 < 2048 := by omega
  have hl : loc9Of (ix2 b e) = ix2 (⟨b.val % 512, by omega⟩ : Fin 512) e := by
    funext a
    apply Fin.ext
    match a with
    | ⟨0, _⟩ => rfl
    | ⟨1, _⟩ => show e.val % 768 = e.val; omega
  unfold G9
  rw [dif_pos (by rw [hp]; exact ht), ← outsAt0_sweep m c _ (by rw [hp]; exact ht), hl]
  have key := block_value m c ⟨b.val / 512, ht⟩ ⟨b.val % 512, by omega⟩ e hr
  have hbb : (⟨512 * (b.val / 512) + b.val % 512, hr⟩ : Fin 2048) = b := Fin.ext (by show 512 * (b.val / 512) + b.val % 512 = b.val; omega)
  dsimp only at key
  rw [hbb] at key
  simp only [hp]
  exact key

end Cert.Proof

end
-- ==== Proof.Reference.lean ====
/-
  The reference's result array, place by place, over the extended reals: the plain formula of its arguments; and what the
  precondition says of the sublayers' encoder weights and decoder biases.
-/
module

public import proofs.«01_k».proof.Defs
public import proofs.«01_k».proof.Proof.Gen.ReferenceIdeal.Run
public import proofs.«01_k».proof.Proof.Formula

@[expose] public section

noncomputable section

namespace Cert.Proof

open Idealize.ShloMosaic Idealize.SL.Sem
open Cert.ReferenceIdeal

/-- Every execution of the reference ends with the plain formula at every place of its result, and its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 2048) (e : Fin 768), r.2.mem ((c.tc : Thread nD τ).loc main_v37) (ix2 b e)
        = plain (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) b e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨fun b e => ?_, (h c).2⟩) (Cert.ReferenceIdeal.Value.run (F := Ideal) m ρ)
  rw [(h c).1]
  clear h
  pointwise
  simp only [unsigned_bit]
  rfl

/-- An extended real whose absolute value compares below the infinity is no infinity. -/
theorem finite_of_bit (a : EReal) (h : FloatOps.cmpf (F := Ideal) (φ := .f32) .olt (FloatOps.hostAbsf (F := Ideal) (φ := .f32) a)
    (FloatOps.ofBits (F := Ideal) .f32 0x7F800000#32) = 1#1) : a ≠ ⊥ ∧ a ≠ ⊤ := by
  have htop : Ideal.ofBits .f32 0x7F800000#32 = ⊤ := by simp [Ideal.ofBits, Ideal.ieee]
  have h' : Ideal.cmp .olt (max a (-a)) (Ideal.ofBits .f32 0x7F800000#32) = 1#1 := h
  rw [htop] at h'
  constructor
  · rintro rfl
    simp [Ideal.cmp] at h'
  · rintro rfl
    simp [Ideal.cmp] at h'

/-- The precondition's side conditions hold. -/
theorem pre_facts : Cert.Pre_finite_sublayer.Facts := ⟨by decide, by decide⟩

/-- What the precondition says: no encoder weight of the sublayers is an infinity, and no decoder bias. -/
theorem pre_finite [Cert.Pre_finite_sublayer.Facts] (x : Mat 2048 768) (w0 : Mat 768 64) (b0 : Row 64) (u0 : Mat 64 768) (c0 : Row 768)
    (w : Box 64 768 32) (be : Mat 64 32) (u : Box 64 32 768) (bd : Mat 64 768)
    (h1 : (Cert.Pre_finite_sublayer.fn (F := Ideal) x w0 b0 u0 c0 w be u bd).1 = fun _ => 1#1)
    (h2 : (Cert.Pre_finite_sublayer.fn (F := Ideal) x w0 b0 u0 c0 w be u bd).2 = fun _ => 1#1) :
    (∀ i, w i ≠ ⊥ ∧ w i ≠ ⊤) ∧ (∀ i, bd i ≠ ⊥ ∧ bd i ≠ ⊤) :=
  ⟨fun i => finite_of_bit _ (congrFun h1 i), fun i => finite_of_bit _ (congrFun h2 i)⟩

end Cert.Proof

end
-- ==== Proof.lean ====
/-
  The certificate: the two frames of the kernel and the frame of the reference, the preservation of the kernel by its
  idealization, and the equality of the two results over the extended reals.
-/
module

public import proofs.«01_k».proof.Defs
public import proofs.«01_k».proof.Proof.Gen.Kernel.Frame
public import proofs.«01_k».proof.Proof.KernelValue
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were and every counter at zero. -/
theorem reference_frame : quiescent_ReferenceIdeal := fun m ρ _ =>
  (θ_run Cert.ReferenceIdeal.defs _ _).mono (fun r h => ⟨fun c => (h c).2, sem_eq_zero_of_no_sems (by decide) r.2⟩)
    (reference_run m ρ)

/-- Over the extended reals the kernel's result is the reference's, place by place, where no encoder weight and no decoder bias
    of the sublayers is an infinity. -/
theorem results_equal [Cert.Pre_finite_sublayer.Facts] : algebraic_KernelIdeal_ReferenceIdeal_pre_finite_sublayer := by
  intro m ρ m' ρ' hpre hagree
  refine ⟨_, Cert.KernelIdeal.Value.run (F := Ideal) m ρ, ?_⟩
  refine (θ_run Cert.ReferenceIdeal.defs _ _).mono (fun r h c => ⟨?_, (h c).2⟩) (reference_run m' ρ')
  funext i
  obtain ⟨b, e, rfl⟩ : ∃ (b : Fin 2048) (e : Fin 768), i = ix2 b e := ⟨i 0, i 1, eq_ix2 i⟩
  obtain ⟨hw, hbd⟩ := pre_finite _ _ _ _ _ _ _ _ _ (hpre c).1 (hpre c).2
  refine ((h c).1 b e).trans ?_
  simp only [hagree c]
  exact ((result_value m c b e).trans (fused_eq_plain _ _ _ _ _ _ _ _ _ hw hbd b e)).symm

/-- Every claim of the certificate. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    (trivial : preserves_Kernel_KernelIdeal), haveI := pre_facts; results_equal⟩

end Cert.Proof

end
